-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_features_finite [hPre_features_finite : Cert.Pre_features_finite.Facts] (m : (ℓ : Loc Cert.KernelIdeal.nD Cert.KernelIdeal.τ Cert.KernelIdeal.sig) → Buf (Elt Ideal) ℓ) : Prop :=
  ∀ c : Dev Cert.KernelIdeal.nD,
    (Cert.Pre_features_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_features_finite [hPre_features_finite : Cert.Pre_features_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_features_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_features_finite [hKernelIdeal : Cert.KernelIdeal.Facts] [hPre_features_finite : Cert.Pre_features_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_features_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_features_finite [hReferenceIdeal : Cert.ReferenceIdeal.Facts] [hPre_features_finite : Cert.Pre_features_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_features_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_features_finite [hKernelIdeal : Cert.KernelIdeal.Facts] [hReferenceIdeal : Cert.ReferenceIdeal.Facts] [hPre_features_finite : Cert.Pre_features_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_features_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_features_finite : Cert.Pre_features_finite.Facts),
    quiescent_Kernel (hKernel := hKernel)
    ∧ quiescent_KernelIdeal (hKernelIdeal := hKernelIdeal)
    ∧ quiescent_KernelIdeal_pre_features_finite (hKernelIdeal := hKernelIdeal) (hPre_features_finite := hPre_features_finite)
    ∧ quiescent_ReferenceIdeal (hReferenceIdeal := hReferenceIdeal)
    ∧ quiescent_ReferenceIdeal_pre_features_finite (hReferenceIdeal := hReferenceIdeal) (hPre_features_finite := hPre_features_finite)
    ∧ preserves_Kernel_KernelIdeal
    ∧ algebraic_KernelIdeal_ReferenceIdeal_pre_features_finite (hKernelIdeal := hKernelIdeal) (hReferenceIdeal := hReferenceIdeal) (hPre_features_finite := hPre_features_finite)
-- ==== Pre_features_finite.lean ====
abbrev S50000x128 : Shape := ⟨2, ![50000, 128]⟩
abbrev S1 : Shape := ⟨1, ![1]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S50000x128 .f32) (main_arg1 : FVec F S1 .f32) (main_arg2 : IVec S50000 32) (main_arg3 : FVec F S128x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  main_v8
-- ==== Kernel.lean ====
abbrev S50000x128 : Shape := ⟨2, ![50000, 128]⟩
abbrev S1 : Shape := ⟨1, ![1]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩
abbrev S51200x128 : Shape := ⟨2, ![51200, 128]⟩
abbrev S51200 : Shape := ⟨1, ![51200]⟩
abbrev S25x1x2048 : Shape := ⟨3, ![25, 1, 2048]⟩
abbrev S1x256 : Shape := ⟨2, ![1, 256]⟩
abbrev S1x128 : Shape := ⟨2, ![1, 128]⟩
abbrev S2048x128 : Shape := ⟨2, ![2048, 128]⟩
abbrev S1x1x2048 : Shape := ⟨3, ![1, 1, 2048]⟩
abbrev S256x1 : Shape := ⟨2, ![256, 1]⟩
abbrev S2048 : Shape := ⟨1, ![2048]⟩
abbrev S256x2048 : Shape := ⟨2, ![256, 2048]⟩
abbrev S1x2048 : Shape := ⟨2, ![1, 2048]⟩
abbrev S256x256 : Shape := ⟨2, ![256, 256]⟩

abbrev nBuf : Space → Nat
  | .hbm => 17
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S1, .f32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S_, .f32⟩
  | .hbm, ⟨9, _⟩ => ⟨S51200x128, .f32⟩
  | .hbm, ⟨10, _⟩ => ⟨S_, .i32⟩
  | .hbm, ⟨11, _⟩ => ⟨S_, .i32⟩
  | .hbm, ⟨12, _⟩ => ⟨S51200, .i32⟩
  | .hbm, ⟨13, _⟩ => ⟨S25x1x2048, .i32⟩
  | .hbm, ⟨14, _⟩ => ⟨S1x256, .f32⟩
  | .hbm, ⟨15, _⟩ => ⟨S1x128, .f32⟩
  | .hbm, ⟨16, _⟩ => ⟨S256x128, .f32⟩
  | .local _ .vmem, ⟨0, _⟩ => ⟨S2048x128, .f32⟩
  | .local _ .vmem, ⟨1, _⟩ => ⟨S2048x128, .f32⟩
  | .local _ .vmem, ⟨2, _⟩ => ⟨S1x1x2048, .i32⟩
  | .local _ .vmem, ⟨3, _⟩ => ⟨S1x1x2048, .i32⟩
  | .local _ .vmem, ⟨4, _⟩ => ⟨S128x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v26 : BitVec 1 := Scalar.cmpi .eq arg0 c24_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S50000x128 : Shape := ⟨2, ![50000, 128]⟩
abbrev S1 : Shape := ⟨1, ![1]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000x256 : Shape := ⟨2, ![50000, 256]⟩
abbrev S1x256 : Shape := ⟨2, ![1, 256]⟩
abbrev S_ : Shape := ⟨0, ![]⟩
abbrev S256x256 : Shape := ⟨2, ![256, 256]⟩
abbrev S50000x1 : Shape := ⟨2, ![50000, 1]⟩
abbrev S1x128 : Shape := ⟨2, ![1, 128]⟩

abbrev nBuf : Space → Nat
  | .hbm => 19
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1, .f32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000x256, .f32⟩
  | .hbm, ⟨8, _⟩ => ⟨S1x256, .f32⟩
  | .hbm, ⟨9, _⟩ => ⟨S50000x256, .f32⟩
  | .hbm, ⟨10, _⟩ => ⟨S50000x256, .f32⟩
  | .hbm, ⟨11, _⟩ => ⟨S_, .f32⟩
  | .hbm, ⟨12, _⟩ => ⟨S256x256, .f32⟩
  | .hbm, ⟨13, _⟩ => ⟨S50000x1, .i32⟩
  | .hbm, ⟨14, _⟩ => ⟨S256x256, .f32⟩
  | .hbm, ⟨15, _⟩ => ⟨S256x128, .f32⟩
  | .hbm, ⟨16, _⟩ => ⟨S1x128, .f32⟩
  | .hbm, ⟨17, _⟩ => ⟨S256x128, .f32⟩
  | .hbm, ⟨18, _⟩ => ⟨S256x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.Body.lean ====
/-
  What the kernel body leaves behind, case by case: the two scratch buffers it carries from block to block and, in the
  last block, the output, each as the value the body stored over the values it loaded.
-/
module

public import proofs.«01_k».proof.Proof.Gen.KernelIdeal.Value
public import Idealize.ShloMosaic.Lib.Tactic

@[expose] public section

noncomputable section

namespace Cert.KernelIdeal.Pool

open Cert.KernelIdeal Cert.KernelIdeal.Gen Idealize.ShloMosaic Idealize.ShloMosaic.TcCoe

variable {F : FTy → Type} [FloatOps F]

/-- The origin of a matrix is the zero offset. -/
theorem origin2 : (![0, 0] : Fin 2 → Nat) = fun _ => 0 := by
  funext a; fin_cases a <;> rfl

/-- The origin of a rank-three array is the zero offset. -/
theorem origin3 : (![0, 0, 0] : Fin 3 → Nat) = fun _ => 0 := by
  funext a; fin_cases a <;> rfl

section Cases

variable (c : Dev nD) (i : grid0.Coords)
  (a1 : Memref sig .tc .vmem S2048x128 .f32) (h1 : a1.IsWhole) (a2 : Memref sig .tc .vmem S1x1x2048 .i32) (h2 : a2.IsWhole)
  (a3 : Memref sig .tc .vmem S128x256 .f32) (h3 : a3.IsWhole) (a4 : Memref sig .tc .vmem S1x256 .f32) (h4 : a4.IsWhole)
  (a5 : Memref sig .tc .vmem S256x128 .f32) (h5 : a5.IsWhole) (a6 : Memref sig .tc .vmem S1x128 .f32) (h6 : a6.IsWhole)
  (a7 : Memref sig .tc .vmem S256x128 .f32) (h7 : a7.IsWhole) (a8 : Memref sig .tc .vmem S256x128 .f32) (h8 : a8.IsWhole)
  (a9 : Memref sig .tc .vmem S256x1 .f32) (h9 : a9.IsWhole)
  (x0 : Vec F S2048x128 .f32) (x1 : Vec F S1x1x2048 .i32) (x2 : Vec F S128x256 .f32) (x3 : Vec F S1x256 .f32)
  (x4 : Vec F S256x128 .f32) (x5 : Vec F S1x128 .f32) (xs0 : Vec F S256x128 .f32) (xs1 : Vec F S256x1 .f32)

/-- In the first block the row sums start from zero. -/
theorem sums_first (hc0 : cond0_0 i) (hc1 : ¬cond0_1 i) :
    sout0_A_0 c i a1 h1 a2 h2 a3 h3 a4 h4 a5 h5 a6 h6 a7 h7 a8 h8 a9 h9 hc0 hc1 x0 x1 x2 x3 x4 x5 = k0_pay4 x1 (k0_pay1 (F := F)) x0 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero origin2]
  simp only [View.readAt_eq_ld, h1.read_unread, h2.read_unread, h3.read_unread, h4.read_unread, h5.read_unread,
    h6.read_unread, h8.read_unread, h9.read_unread, View.ld_unit_zero (S := S2048x128) origin2,
    View.ld_unit_zero (S := S1x1x2048) origin3, View.ld_unit_zero (S := S128x256) origin2,
    View.ld_unit_zero (S := S1x256) origin2, View.ld_unit_zero (S := S256x128) origin2,
    View.ld_unit_zero (S := S1x128) origin2, View.ld_unit_zero (S := S256x1) origin2, View.readCov_unit_zero (S := S256x128) _ origin2,
    View.readCov_unit_zero (S := S256x1) _ origin2]

/-- In the first block the counts start from zero. -/
theorem counts_first (hc0 : cond0_0 i) (hc1 : ¬cond0_1 i) :
    sout0_A_1 c i a1 h1 a2 h2 a3 h3 a4 h4 a5 h5 a6 h6 a7 h7 a8 h8 a9 h9 hc0 hc1 x0 x1 x2 x3 x4 x5 = k0_pay5 x1 (k0_pay2 (F := F)) := by
  unfold sout0_A_1
  rw [View.read_writes_eq_canon _ _ _ (scover0_A_1 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero origin2]
  simp only [View.readAt_eq_ld, h1.read_unread, h2.read_unread, h3.read_unread, h4.read_unread, h5.read_unread,
    h6.read_unread, h8.read_unread, h9.read_unread, View.ld_unit_zero (S := S2048x128) origin2,
    View.ld_unit_zero (S := S1x1x2048) origin3, View.ld_unit_zero (S := S128x256) origin2,
    View.ld_unit_zero (S := S1x256) origin2, View.ld_unit_zero (S := S256x128) origin2,
    View.ld_unit_zero (S := S1x128) origin2, View.ld_unit_zero (S := S256x1) origin2, View.readCov_unit_zero (S := S256x128) _ origin2,
    View.readCov_unit_zero (S := S256x1) _ origin2]

/-- In a middle block the row sums grow by the block. -/
theorem sums_middle (hc0 : ¬cond0_0 i) (hc1 : ¬cond0_1 i) :
    sout0_B_0 c i a1 h1 a2 h2 a3 h3 a4 h4 a5 h5 a6 h6 a7 h7 a8 h8 a9 h9 hc0 hc1 x0 x1 x2 x3 x4 x5 xs0 xs1 = k0_pay4 x1 xs0 x0 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 x5 xs0 xs1)]
  unfold kernelRun0_B
  dsimp only
  sl_unfold_words
  rw [View.canon_unit_zero origin2]
  simp only [View.readAt_eq_ld, h1.read_unread, h2.read_unread, h3.read_unread, h4.read_unread, h5.read_unread,
    h6.read_unread, h8.read_unread, h9.read_unread, View.ld_unit_zero (S := S2048x128) origin2,
    View.ld_unit_zero (S := S1x1x2048) origin3, View.ld_unit_zero (S := S128x256) origin2,
    View.ld_unit_zero (S := S1x256) origin2, View.ld_unit_zero (S := S256x128) origin2,
    View.ld_unit_zero (S := S1x128) origin2, View.ld_unit_zero (S := S256x1) origin2, View.readCov_unit_zero (S := S256x128) _ origin2,
    View.readCov_unit_zero (S := S256x1) _ origin2]

/-- In a middle block the counts grow by the block. -/
theorem counts_middle (hc0 : ¬cond0_0 i) (hc1 : ¬cond0_1 i) :
    sout0_B_1 c i a1 h1 a2 h2 a3 h3 a4 h4 a5 h5 a6 h6 a7 h7 a8 h8 a9 h9 hc0 hc1 x0 x1 x2 x3 x4 x5 xs0 xs1 = k0_pay5 x1 xs1 := by
  unfold sout0_B_1
  rw [View.read_writes_eq_canon _ _ _ (scover0_B_1 c i a1 h1 a2 h2 a3 h3 a4 h4 a5 h5 a6 h6 a7 h7 a8 h8 a9 h9 hc0 hc1 x0 x1 x2 x3 x4 x5 xs0 xs1)]
  unfold kernelRun0_B
  dsimp only
  sl_unfold_words
  rw [View.canon_unit_zero origin2]
  simp only [View.readAt_eq_ld, h1.read_unread, h2.read_unread, h3.read_unread, h4.read_unread, h5.read_unread,
    h6.read_unread, h8.read_unread, h9.read_unread, View.ld_unit_zero (S := S2048x128) origin2,
    View.ld_unit_zero (S := S1x1x2048) origin3, View.ld_unit_zero (S := S128x256) origin2,
    View.ld_unit_zero (S := S1x256) origin2, View.ld_unit_zero (S := S256x128) origin2,
    View.ld_unit_zero (S := S1x128) origin2, View.ld_unit_zero (S := S256x1) origin2, View.readCov_unit_zero (S := S256x128) _ origin2,
    View.readCov_unit_zero (S := S256x1) _ origin2]

/-- In the last block the output is computed from the row sums and counts that block completes. -/
theorem out_last (hc0 : ¬cond0_0 i) (hc1 : cond0_1 i) :
    out0_C_6 c i a1 h1 a2 h2 a3 h3 a4 h4 a5 h5 a6 h6 a7 h7 a8 h8 a9 h9 hc0 hc1 x0 x1 x2 x3 x4 x5 xs0 xs1 = k0_pay6 (k0_pay4 x1 xs0 x0) x2 (k0_pay5 x1 xs1) x3 x4 x5 := by
  unfold out0_C_6
  rw [View.read_writes_eq_canon _ _ _ (cover0_C_6 c i a1 h1 a2 h2 a3 h3 a4 h4 a5 h5 a6 h6 a7 h7 a8 h8 a9 h9 hc0 hc1 x0 x1 x2 x3 x4 x5 xs0 xs1)]
  unfold kernelRun0_C
  dsimp only
  sl_unfold_words
  rw [View.canon_unit_zero origin2]
  simp only [View.readAt_eq_ld, h1.read_unread, h2.read_unread, h3.read_unread, h4.read_unread, h5.read_unread,
    h6.read_unread, h8.read_unread, h9.read_unread, View.ld_unit_zero (S := S2048x128) origin2,
    View.ld_unit_zero (S := S1x1x2048) origin3, View.ld_unit_zero (S := S128x256) origin2,
    View.ld_unit_zero (S := S1x256) origin2, View.ld_unit_zero (S := S256x128) origin2,
    View.ld_unit_zero (S := S1x128) origin2, View.ld_unit_zero (S := S256x1) origin2, View.readCov_unit_zero (S := S256x128) _ origin2,
    View.readCov_unit_zero (S := S256x1) _ origin2]

end Cases

end Cert.KernelIdeal.Pool

end
-- ==== Proof.Math.lean ====
/-
  Sums over the extended reals: pooling rows that carry an affine map is the affine map of the pooled rows with the bias
  weighted by the number of rows, and a sum taken block by block over padded rows is the sum over the real rows.
-/
module

public import Idealize.ShloMosaic.Lib.ValueIdx

@[expose] public section

noncomputable section

namespace Cert.SegmentPool

/-- A finite sum of real numbers is the same number summed in the extended reals. -/
theorem coe_sum_real {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Among finite values a common right factor comes out of a sum. -/
theorem sum_mul_of_finite {ι : Type*} (S : Finset ι) (f : ι → EReal) (w : EReal) (hf : ∀ i, f i ≠ ⊤ ∧ f i ≠ ⊥)
    (hw : w ≠ ⊤ ∧ w ≠ ⊥) : ∑ i ∈ S, f i * w = (∑ i ∈ S, f i) * w := by
  have e : ∀ i, f i = ((f i).toReal : EReal) := fun i => (EReal.coe_toReal (hf i).1 (hf i).2).symm
  have ew : w = (w.toReal : EReal) := (EReal.coe_toReal hw.1 hw.2).symm
  rw [Finset.sum_congr rfl fun i _ => e i, ← coe_sum_real, ew, ← EReal.coe_mul, Finset.sum_mul, coe_sum_real]
  refine Finset.sum_congr rfl fun i _ => ?_
  rw [EReal.coe_mul, ← e i]

/-- The weight of a row in a segment: one where it belongs to it, zero elsewhere. -/
def weight (p : Prop) [Decidable p] : EReal := if p then 1 else 0

/-- A weighted sum is the sum over the rows of weight one. -/
theorem sum_weight_mul {ι : Type*} [Fintype ι] (p : ι → Prop) [DecidablePred p] (f : ι → EReal) :
    ∑ i, weight (p i) * f i = ∑ i ∈ Finset.univ.filter p, f i := by
  rw [Finset.sum_filter]
  refine Finset.sum_congr rfl fun i _ => ?_
  unfold weight
  split <;> simp

/-- The weights alone sum to the number of rows of the segment. -/
theorem sum_weight {ι : Type*} [Fintype ι] (p : ι → Prop) [DecidablePred p] :
    ∑ i, weight (p i) = ((Finset.univ.filter p).card : EReal) := by
  unfold weight
  rw [Finset.sum_boole]

/-- Pooling commutes with an affine map of the rows: on finite rows and weights `w`, and any bias `b`, the pooled images
    are the image of the pooled rows with the bias taken once for each row pooled. -/
theorem pool_affine {ι κ : Type*} [Fintype ι] [Fintype κ] (p : ι → Prop) [DecidablePred p] (x : ι → κ → EReal)
    (w : κ → EReal) (b : EReal) (hx : ∀ i k, x i k ≠ ⊤ ∧ x i k ≠ ⊥) (hw : ∀ k, w k ≠ ⊤ ∧ w k ≠ ⊥) :
    ∑ i ∈ Finset.univ.filter p, (∑ k, x i k * w k + b)
      = ∑ k, (∑ i, weight (p i) * x i k) * w k + (∑ i, weight (p i)) * b := by
  rw [Finset.sum_add_distrib, Finset.sum_const, EReal.nsmul_eq_mul, sum_weight, Finset.sum_comm]
  refine congrArg (· + _) (Finset.sum_congr rfl fun k _ => ?_)
  rw [sum_weight_mul, sum_mul_of_finite _ _ _ (fun i => hx i k) (hw k)]

/-- A sum over consecutive blocks of `L` terms each is the sum over all of them. -/
theorem sum_blocks {M : Type*} [AddCommMonoid M] (L : ℕ) (f : ℕ → M) (T : ℕ) :
    ∑ t ∈ Finset.range T, ∑ l : Fin L, f (L * t + l.val) = ∑ r ∈ Finset.range (L * T), f r := by
  induction T with
  | zero => simp
  | succ T ih =>
    rw [Finset.sum_range_succ, ih, Nat.mul_succ, Finset.sum_range_add, Finset.sum_range]
    exact congrArg (_ + ·) (Finset.sum_range (fun l => f (L * T + l))).symm

/-- Terms past the `N`-th that vanish may be dropped from a longer sum. -/
theorem sum_range_drop {M : Type*} [AddCommMonoid M] (N K : ℕ) (f : ℕ → M) (h : ∀ r, N ≤ r → f r = 0) :
    ∑ r ∈ Finset.range (N + K), f r = ∑ n : Fin N, f n.val := by
  rw [Finset.sum_range_add, Finset.sum_eq_zero fun r _ => h (N + r) (Nat.le_add_right N r), add_zero, Finset.sum_range]

end Cert.SegmentPool

end
-- ==== Proof.Payload.lean ====
/-
  The values the kernel body stores, read at one entry over the extended reals: the membership matrix of a block, the
  row sums and counts a block adds to, and the output the last block computes from them.
-/
module

public import proofs.«01_k».proof.Proof.Gen.KernelIdeal.Skeleton
public import proofs.«01_k».proof.Proof.Math
public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.KernelIdeal.Pool

open Cert.KernelIdeal Cert.KernelIdeal.Gen Cert.SegmentPool Idealize.ShloMosaic Idealize.ShloMosaic.ValueIdx

/-- The membership matrix of a block: one where node `l` of the block names segment `s`, zero elsewhere. -/
theorem member_apply (ids : Vec Ideal S1x1x2048 .i32) (s : Fin 256) (l : Fin 2048) :
    k0_pay3 (F := Ideal) ids (ix2 s l) = weight (ids (ix3 0 0 l) = BitVec.ofNat 32 s.val) := by
  have hid : broadcastTo S256x2048 (shapeCast S1x2048 (shapeCast S2048 ids shapeCasts_S1x1x2048_S2048)
      shapeCasts_S2048_S1x2048) broadcasts_S1x2048_S256x2048 (ix2 s l) = ids (ix3 0 0 l) := by
    rw [broadcastTo_apply _ _ _ (ix2 0 l : S1x2048.Idx) (fun a => by fin_cases a <;> rfl)]
    rw [shapeCast_apply _ _ (ix2 0 l : S1x2048.Idx) (ix1 l : S2048.Idx)
        (by rw [Shape.rowMajor_val_one, Shape.rowMajor_val_two]; simp [ix1, ix2]),
      shapeCast_apply _ _ (ix1 l : S2048.Idx) (ix3 0 0 l : S1x1x2048.Idx)
        (by rw [Shape.rowMajor_val_one, Shape.rowMajor_val_three]; simp [ix1, ix3])]
  unfold k0_pay3
  dsimp only
  rw [sitofp_apply, extui_apply]
  show FloatOps.sitofp FTy.f32 ((IntOp.cmpi .eq _ _).setWidth 32) = _
  rw [iota_single_apply, hid]
  show (((((BitVec.ofBool (BitVec.ofNat 32 s.val == ids (ix3 0 0 l))).setWidth 32).toInt : ℝ)) : EReal) = _
  unfold weight
  by_cases e : ids (ix3 0 0 l) = BitVec.ofNat 32 s.val
  · rw [if_pos e, e, beq_self_eq_true]; simp
  · rw [if_neg e, beq_eq_false_iff_ne.mpr (Ne.symm e)]; simp

/-- The row sums after a block: entry `(s, k)` grows by feature `k` of the block's nodes in segment `s`. -/
theorem sums_apply (ids : Vec Ideal S1x1x2048 .i32) (acc : Vec Ideal S256x128 .f32) (x : Vec Ideal S2048x128 .f32)
    (s : Fin 256) (k : Fin 128) :
    k0_pay4 (F := Ideal) ids acc x (ix2 s k)
      = acc (ix2 s k) + ∑ l : Fin 2048, weight (ids (ix3 0 0 l) = BitVec.ofNat 32 s.val) * x (ix2 l k) := by
  unfold k0_pay4
  rw [shapeCast_self, shapeCast_self, addf_apply]
  refine congrArg (acc (ix2 s k) + ·) ?_
  refine (Ideal.matmul_plain_apply none (k0_pay3 (F := Ideal) ids) x (constant S256x128 .f32 0x00000000#32) s k).trans ?_
  rw [ValueIdx.constant_apply, Ideal.ofBits_zero_f32, zero_add]
  exact Finset.sum_congr rfl fun l _ => by rw [member_apply]

/-- The counts after a block: entry `s` grows by the number of the block's nodes in segment `s`. -/
theorem counts_apply (ids : Vec Ideal S1x1x2048 .i32) (cnt : Vec Ideal S256x1 .f32) (s : Fin 256) :
    k0_pay5 (F := Ideal) ids cnt (ix2 s 0)
      = cnt (ix2 s 0) + ∑ l : Fin 2048, weight (ids (ix3 0 0 l) = BitVec.ofNat 32 s.val) := by
  unfold k0_pay5
  rw [shapeCast_self, addf_apply]
  refine congrArg (cnt (ix2 s 0) + ·) ?_
  rw [shapeCast_apply _ _ (ix2 s 0 : S256x1.Idx) (ix1 s : S256.Idx) (by
    rw [Shape.rowMajor_val_one, Shape.rowMajor_val_two]; simp [ix1, ix2])]
  refine (Ideal.multiReduction_add_single _ _ _ _ _ _).trans ?_
  refine Finset.sum_congr rfl fun (l : Fin 2048) _ => ?_
  rw [← member_apply]
  refine congrArg (k0_pay3 (F := Ideal) ids) ?_
  rw [eq_ix2 (n0 := 256) (n1 := 2048) (reduces_S256x2048_S256.lift (ix1 s) l)]
  rfl

/-- The output of the last block: the pooled rows and counts through both affine maps. -/
theorem out_apply (acc : Vec Ideal S256x128 .f32) (w : Vec Ideal S128x256 .f32) (cnt : Vec Ideal S256x1 .f32)
    (b : Vec Ideal S1x256 .f32) (p : Vec Ideal S256x128 .f32) (q : Vec Ideal S1x128 .f32) (s : Fin 256) (j : Fin 128) :
    k0_pay6 (F := Ideal) acc w cnt b p q (ix2 s j)
      = (∑ h : Fin 256, ((∑ k : Fin 128, acc (ix2 s k) * w (ix2 k h)) + cnt (ix2 s 0) * b (ix2 0 h)) * p (ix2 h j))
        + q (ix2 0 j) := by
  unfold k0_pay6
  rw [shapeCast_self, shapeCast_self, addf_apply]
  congr 1
  · refine (Ideal.matmul_plain_apply none _ p (constant S256x128 .f32 0x00000000#32) s j).trans ?_
    rw [ValueIdx.constant_apply, Ideal.ofBits_zero_f32, zero_add]
    refine Finset.sum_congr rfl fun h _ => congrArg (· * p (ix2 h j)) ?_
    rw [addf_apply, mulf_apply]
    congr 1
    · refine (Ideal.matmul_plain_apply none acc w (constant S256x256 .f32 0x00000000#32) s h).trans ?_
      rw [ValueIdx.constant_apply, Ideal.ofBits_zero_f32, zero_add]
    · rw [broadcastTo_apply cnt _ (ix2 s h : S256x256.Idx) (ix2 s 0 : S256x1.Idx) (fun a => by fin_cases a <;> rfl),
        broadcastTo_apply b _ (ix2 s h : S256x256.Idx) (ix2 0 h : S1x256.Idx) (fun a => by fin_cases a <;> rfl)]
  · exact broadcastTo_apply q _ (ix2 s j : S256x128.Idx) (ix2 0 j : S1x128.Idx) (fun a => by fin_cases a <;> rfl)

end Cert.KernelIdeal.Pool

end
-- ==== Proof.Host.lean ====
/-
  What the kernel's grid reads: the arrays the host lays out before the region (the padded features and segment ids, the
  biases as rows), and each block of them, entry by entry.
-/
module

public import proofs.«01_k».proof.Proof.Gen.KernelIdeal.Frame
public import Idealize.ShloMosaic.Lib.StableHlo.Run
public import Idealize.ShloMosaic.Lib.KernelVsHost
public import Idealize.ShloMosaic.Lib.ValueIdx
public import Idealize.ShloMosaic.Lib.Pipeline.Value
public import Idealize.ShloMosaic.PureOps.Ideal.Laws

@[expose] public section

noncomputable section

namespace Cert.KernelIdeal.Pool

open Cert.KernelIdeal Cert.KernelIdeal.Gen Idealize.ShloMosaic Idealize.ShloMosaic.TcCoe Idealize.ShloMosaic.ValueIdx
open Idealize.ShloMosaic.StableHlo

variable {F : FTy → Type} [FloatOps F]
variable (m : (ℓ : Loc nD τ sig) → Buf (Elt F) ℓ) (c : Dev nD)

/-! ## The host's arrays -/

/-- The features the grid reads are the argument with rows of zeros after the last node. -/
theorem features_padded : (V m c main_v0 : Vec F S51200x128 .f32)
    = pad S51200x128 ![0, 0] ![1200, 0] ![0, 0] (m ((c : Thread nD τ).loc main_arg0)) (sitofp .f32 (constantI S_ 32 0#32))
      pads_S50000x128_S51200x128_012000_000 h_S_ := by
  unfold V
  simp only [hostOps0, hostOps0_1, hostOps0_2, hostOps0_3, hostOps0_4, List.flatten_cons, List.flatten_nil,
    List.append_nil, List.cons_append, List.nil_append]
  after_results <;> rfl

/-- The segment ids the grid reads are the argument, with 256 after the last node, cut into blocks. -/
theorem ids_padded : (V m c main_v2 : Vec F S25x1x2048 .i32)
    = shapeCast S25x1x2048 (pad S51200 ![0] ![1200] ![0] (m ((c : Thread nD τ).loc main_arg2)) (constantI S_ 32 256#32)
      pads_S50000_S51200_012000 h_S_) shapeCasts_S51200_S25x1x2048 := by
  unfold V
  simp only [hostOps0, hostOps0_1, hostOps0_2, hostOps0_3, hostOps0_4, List.flatten_cons, List.flatten_nil,
    List.append_nil, List.cons_append, List.nil_append]
  after_results <;> rfl

/-- The hidden bias as a row. -/
theorem bias_row : (V m c main_v3 : Vec F S1x256 .f32)
    = shapeCast S1x256 (m ((c : Thread nD τ).loc main_arg4)) shapeCasts_S256_S1x256 := by
  unfold V
  simp only [hostOps0, hostOps0_1, hostOps0_2, hostOps0_3, hostOps0_4, List.flatten_cons, List.flatten_nil,
    List.append_nil, List.cons_append, List.nil_append]
  after_results <;> rfl

/-- The output bias as a row. -/
theorem out_bias_row : (V m c main_v4 : Vec F S1x128 .f32)
    = shapeCast S1x128 (m ((c : Thread nD τ).loc main_arg6)) shapeCasts_S128_S1x128 := by
  unfold V
  simp only [hostOps0, hostOps0_1, hostOps0_2, hostOps0_3, hostOps0_4, List.flatten_cons, List.flatten_nil,
    List.append_nil, List.cons_append, List.nil_append]
  after_results <;> rfl

/-! ## The padded arrays row by row -/

/-- Row `r` of the padded segment ids. -/
def idAt (ids : S50000.Idx → BitVec 32) (r : ℕ) : BitVec 32 := if h : r < 50000 then ids (ix1 ⟨r, h⟩) else 256#32

/-- Entry `(r, k)` of the padded features. -/
def featAt (x : S50000x128.Idx → EReal) (r : ℕ) (k : Fin 128) : EReal := if h : r < 50000 then x (ix2 ⟨r, h⟩ k) else 0

/-- An entry of the padded ids vector. -/
theorem pad_ids_apply (ids : S50000.Idx → BitVec 32) (r : Fin 51200) :
    pad S51200 ![0] ![1200] ![0] ids (constantI S_ 32 256#32) pads_S50000_S51200_012000 h_S_ (ix1 r) = idAt ids r.val := by
  unfold idAt
  split
  · next h =>
    exact pad_apply_of_inside _ _ _ _ _ _ _ _ (ix1 ⟨r.val, h⟩ : S50000.Idx) fun a => by
      fin_cases a; show r.val = 0 + r.val * 1; omega
  · next h =>
    exact (pad_apply_of_not_inside _ _ _ _ _ _ _ _ (0 : Fin 1) fun hin => h (by
      have := hin.2.2; change (r.val - 0) / 1 < 50000 at this; omega)).trans rfl

/-- An entry of the padded features. -/
theorem pad_features_apply (x : S50000x128.Idx → EReal) (r : Fin 51200) (k : Fin 128) :
    pad S51200x128 ![0, 0] ![1200, 0] ![0, 0] x (sitofp (F := Ideal) .f32 (constantI S_ 32 0#32))
      pads_S50000x128_S51200x128_012000_000 h_S_ (ix2 r k) = featAt x r.val k := by
  unfold featAt
  split
  · next h =>
    exact pad_apply_of_inside _ _ _ _ _ _ _ _ (ix2 ⟨r.val, h⟩ k : S50000x128.Idx) fun a => by
      fin_cases a
      · show r.val = 0 + r.val * 1; omega
      · show k.val = 0 + k.val * 1; omega
  · next h =>
    refine (pad_apply_of_not_inside _ _ _ _ _ _ _ _ (0 : Fin 2) fun hin => h (by
      have := hin.2.2; change (r.val - 0) / 1 < 50000 at this; omega)).trans ?_
    show ((((0#32 : BitVec 32).toInt : ℝ)) : EReal) = 0
    simp

/-! ## The blocks -/

/-- The coordinate of a grid point is its number. -/
theorem point_coord (t : Fin cfg0.N) : (grid0.coords t 0).val = t.val := by
  have ht : t.val < 25 := Nat.lt_of_lt_of_eq t.isLt N_0
  have e := Pipeline.Grid.coords_val (G := grid0) t 0 (S := 1) (B := 25) (by decide) rfl
  rw [e]; omega

/-- Row `l` of block `t` in the padded arrays. -/
def row (t : Fin cfg0.N) (l : Fin 2048) : Fin 51200 :=
  ⟨2048 * t.val + l.val, by have := Nat.lt_of_lt_of_eq t.isLt N_0; omega⟩

/-- Entry `(l, k)` of feature block `t`. -/
theorem feature_block (t : Fin cfg0.N) (l : Fin 2048) (k : Fin 128) :
    (iblk m c 0 t : Vec F S2048x128 .f32) (ix2 l k) = (V m c main_v0 : Vec F S51200x128 .f32) (ix2 (row t l) k) := by
  unfold iblk
  rw [View.read_apply]
  show V m c main_v0 _ = V m c main_v0 _
  congr 1
  funext a
  apply Fin.ext
  have ht : t.val < 25 := Nat.lt_of_lt_of_eq t.isLt N_0
  have e0 : win0_0.index t 0 = t.val := by
    show (BitVec.ofNat 32 (grid0.coords t 0).val).toNat = t.val
    rw [point_coord, BitVec.toNat_ofNat]; omega
  match a with
  | ⟨0, _⟩ => show win0_0.index t 0 * 2048 + 1 * l.val = 2048 * t.val + l.val; rw [e0]; omega
  | ⟨1, _⟩ => show 0 * 128 + 1 * k.val = k.val; omega

/-- Entry `l` of block `t` of the segment ids. -/
theorem ids_block (t : Fin cfg0.N) (l : Fin 2048) :
    (iblk m c 1 t : Vec F S1x1x2048 .i32) (ix3 0 0 l)
      = (V m c main_v2 : Vec F S25x1x2048 .i32) (ix3 ⟨t.val, Nat.lt_of_lt_of_eq t.isLt N_0⟩ 0 l) := by
  unfold iblk
  rw [View.read_apply]
  show V m c main_v2 _ = V m c main_v2 _
  congr 1
  funext a
  apply Fin.ext
  have ht : t.val < 25 := Nat.lt_of_lt_of_eq t.isLt N_0
  have e0 : win0_1.index t 0 = t.val := by
    show (BitVec.ofNat 32 (grid0.coords t 0).val).toNat = t.val
    rw [point_coord, BitVec.toNat_ofNat]; omega
  match a with
  | ⟨0, _⟩ => show win0_1.index t 0 * 1 + 1 * 0 = t.val; rw [e0]; omega
  | ⟨1, _⟩ => rfl
  | ⟨2, _⟩ => show 0 * 2048 + 1 * l.val = l.val; omega

/-- Entry `l` of block `t` of the segment ids is row `2048 t + l` of the padded ids. -/
theorem ids_block_row (t : Fin cfg0.N) (l : Fin 2048) :
    (iblk m c 1 t : Vec F S1x1x2048 .i32) (ix3 0 0 l)
      = idAt (m ((c : Thread nD τ).loc main_arg2)) (2048 * t.val + l.val) := by
  rw [ids_block, ids_padded]
  refine (shapeCast_apply (s := S51200) (t := S25x1x2048) _ _ _ (ix1 (row t l)) ?_).trans (pad_ids_apply _ (row t l))
  rw [Shape.rowMajor_val_one, Shape.rowMajor_val_three]
  show 2048 * t.val + l.val = (t.val * 1 + 0) * 2048 + l.val
  omega

/-- Entry `(l, k)` of feature block `t` is row `2048 t + l` of the padded features. -/
theorem feature_block_row (m : (ℓ : Loc nD τ sig) → Buf (Elt Ideal) ℓ) (t : Fin cfg0.N) (l : Fin 2048) (k : Fin 128) :
    (iblk m c 0 t : Vec Ideal S2048x128 .f32) (ix2 l k)
      = featAt (m ((c : Thread nD τ).loc main_arg0)) (2048 * t.val + l.val) k := by
  rw [feature_block, features_padded]
  exact pad_features_apply _ (row t l) k

/-- The hidden weights' block is the array at every point. -/
theorem weights_block (t : Fin cfg0.N) (k : Fin 128) (h : Fin 256) :
    (iblk m c 2 t : Vec F S128x256 .f32) (ix2 k h) = m ((c : Thread nD τ).loc main_arg3) (ix2 k h : S128x256.Idx) := by
  rw [← V_main_arg3 m c]
  unfold iblk
  rw [View.read_apply]
  show V m c main_arg3 _ = V m c main_arg3 _
  congr 1
  funext a
  apply Fin.ext
  match a with
  | ⟨0, _⟩ => show 0 * 128 + 1 * k.val = k.val; omega
  | ⟨1, _⟩ => show 0 * 256 + 1 * h.val = h.val; omega

/-- The hidden bias' block is the bias at every point. -/
theorem bias_block (t : Fin cfg0.N) (h : Fin 256) :
    (iblk m c 3 t : Vec F S1x256 .f32) (ix2 0 h) = m ((c : Thread nD τ).loc main_arg4) (ix1 h : S256.Idx) := by
  have e : (iblk m c 3 t : Vec F S1x256 .f32) (ix2 0 h) = (V m c main_v3 : Vec F S1x256 .f32) (ix2 0 h) := by
    unfold iblk
    rw [View.read_apply]
    show V m c main_v3 _ = V m c main_v3 _
    congr 1
    funext a
    apply Fin.ext
    match a with
    | ⟨0, _⟩ => rfl
    | ⟨1, _⟩ => show 0 * 256 + 1 * h.val = h.val; omega
  rw [e, bias_row]
  exact shapeCast_apply (s := S256) (t := S1x256) _ _ _ _ (by rw [Shape.rowMajor_val_one, Shape.rowMajor_val_two]; simp [ix1, ix2])

/-- The output weights' block is the array at every point. -/
theorem out_weights_block (t : Fin cfg0.N) (h : Fin 256) (j : Fin 128) :
    (iblk m c 4 t : Vec F S256x128 .f32) (ix2 h j) = m ((c : Thread nD τ).loc main_arg5) (ix2 h j : S256x128.Idx) := by
  rw [← V_main_arg5 m c]
  unfold iblk
  rw [View.read_apply]
  show V m c main_arg5 _ = V m c main_arg5 _
  congr 1
  funext a
  apply Fin.ext
  match a with
  | ⟨0, _⟩ => show 0 * 256 + 1 * h.val = h.val; omega
  | ⟨1, _⟩ => show 0 * 128 + 1 * j.val = j.val; omega

/-- The output bias' block is the bias at every point. -/
theorem out_bias_block (t : Fin cfg0.N) (j : Fin 128) :
    (iblk m c 5 t : Vec F S1x128 .f32) (ix2 0 j) = m ((c : Thread nD τ).loc main_arg6) (ix1 j : S128.Idx) := by
  have e : (iblk m c 5 t : Vec F S1x128 .f32) (ix2 0 j) = (V m c main_v4 : Vec F S1x128 .f32) (ix2 0 j) := by
    unfold iblk
    rw [View.read_apply]
    show V m c main_v4 _ = V m c main_v4 _
    congr 1
    funext a
    apply Fin.ext
    match a with
    | ⟨0, _⟩ => rfl
    | ⟨1, _⟩ => show 0 * 128 + 1 * j.val = j.val; omega
  rw [e, out_bias_row]
  exact shapeCast_apply (s := S128) (t := S1x128) _ _ _ _ (by rw [Shape.rowMajor_val_one, Shape.rowMajor_val_two]; simp [ix1, ix2])

end Cert.KernelIdeal.Pool

end
-- ==== Proof.Accumulate.lean ====
/-
  The kernel's result: the row sums and counts carried from block to block are sums over all the rows before, and the
  last block turns them into the output.
-/
module

public import proofs.«01_k».proof.Proof.Body
public import proofs.«01_k».proof.Proof.Payload
public import proofs.«01_k».proof.Proof.Host

@[expose] public section

noncomputable section

namespace Cert.KernelIdeal.Pool

open Cert.KernelIdeal Cert.KernelIdeal.Gen Cert.SegmentPool Idealize.ShloMosaic Idealize.ShloMosaic.TcCoe
open Idealize.ShloMosaic.ValueIdx

variable (m : (ℓ : Loc nD τ sig) → Buf (Elt Ideal) ℓ) (c : Dev nD)

/-- The weight of padded row `r` in segment `s`. -/
def rowWeight (s : Fin 256) (r : ℕ) : EReal :=
  weight (idAt (m ((c : Thread nD τ).loc main_arg2)) r = BitVec.ofNat 32 s.val)

/-- Padded row `r`'s share of feature `k` of segment `s`. -/
def rowShare (s : Fin 256) (k : Fin 128) (r : ℕ) : EReal :=
  rowWeight m c s r * featAt (m ((c : Thread nD τ).loc main_arg0)) r k

/-- A block's addition to the row sums. -/
theorem sums_step (t : Fin cfg0.N) (acc : Vec Ideal S256x128 .f32) (s : Fin 256) (k : Fin 128) :
    k0_pay4 (F := Ideal) (iblk m c 1 t) acc (iblk m c 0 t) (ix2 s k)
      = acc (ix2 s k) + ∑ l : Fin 2048, rowShare m c s k (2048 * t.val + l.val) := by
  rw [sums_apply]
  exact congrArg (acc (ix2 s k) + ·) (Finset.sum_congr rfl fun l _ => by
    rw [ids_block_row, feature_block_row]; rfl)

/-- A block's addition to the counts. -/
theorem counts_step (t : Fin cfg0.N) (cnt : Vec Ideal S256x1 .f32) (s : Fin 256) :
    k0_pay5 (F := Ideal) (iblk m c 1 t) cnt (ix2 s 0)
      = cnt (ix2 s 0) + ∑ l : Fin 2048, rowWeight m c s (2048 * t.val + l.val) := by
  rw [counts_apply]
  exact congrArg (cnt (ix2 s 0) + ·) (Finset.sum_congr rfl fun l _ => by rw [ids_block_row]; rfl)

/-- The row sums start from zeros. -/
theorem sums_zero (s : Fin 256) (k : Fin 128) : k0_pay1 (F := Ideal) (ix2 s k) = 0 := by
  unfold k0_pay1
  rw [shapeCast_self]
  exact Ideal.ofBits_zero_f32

/-- The counts start from zeros. -/
theorem counts_zero (s : Fin 256) : k0_pay2 (F := Ideal) (ix2 s 0) = 0 := by
  unfold k0_pay2
  rw [shapeCast_self]
  exact Ideal.ofBits_zero_f32

/-- After block `n`, short of the last, the carried row sums and counts are the sums over the rows of the blocks so far. -/
theorem carried (s : Fin 256) (k : Fin 128) : ∀ (n : ℕ) (h : n < cfg0.N), n < 24 →
    (outsAt0 m c n h).2.1 (ix2 s k)
        = ∑ t ∈ Finset.range (n + 1), ∑ l : Fin 2048, rowShare m c s k (2048 * t + l.val)
      ∧ (outsAt0 m c n h).2.2 (ix2 s 0)
        = ∑ t ∈ Finset.range (n + 1), ∑ l : Fin 2048, rowWeight m c s (2048 * t + l.val)
  | 0, h, _ => by
    rw [outsAt0_A m c ⟨0, h⟩ rfl (by show ¬0 % 25 = 24; decide)]
    dsimp only
    rw [sums_first, counts_first, sums_step, counts_step, sums_zero, counts_zero]
    simp only [zero_add, Finset.sum_range_one]
    exact ⟨trivial, trivial⟩
  | n + 1, h, hn => by
    have h0 : ¬(⟨n + 1, h⟩ : Fin cfg0.N).val % 25 = 0 := by dsimp only; omega
    have h1 : ¬(⟨n + 1, h⟩ : Fin cfg0.N).val % 25 = 24 := by dsimp only; omega
    obtain ⟨ihs, ihc⟩ := carried s k n (Nat.lt_of_succ_lt h) (by omega)
    rw [outsAt0_B m c ⟨n + 1, h⟩ h0 h1]
    dsimp only
    rw [sums_middle, counts_middle, sums_step, counts_step, Finset.sum_range_succ _ (n + 1),
      Finset.sum_range_succ _ (n + 1), ← ihs, ← ihc]
    exact ⟨rfl, rfl⟩

/-- The pooled feature `k` of segment `s`. -/
def pooledAt (s : Fin 256) (k : Fin 128) : EReal :=
  ∑ n : Fin 50000, weight (m ((c : Thread nD τ).loc main_arg2) (ix1 n : S50000.Idx) = BitVec.ofNat 32 s.val)
    * m ((c : Thread nD τ).loc main_arg0) (ix2 n k : S50000x128.Idx)

/-- The number of nodes of segment `s`. -/
def countAt (s : Fin 256) : EReal :=
  ∑ n : Fin 50000, weight (m ((c : Thread nD τ).loc main_arg2) (ix1 n : S50000.Idx) = BitVec.ofNat 32 s.val)

/-- A padding row weighs nothing in any segment. -/
theorem rowWeight_padding (s : Fin 256) (r : ℕ) (h : 50000 ≤ r) : rowWeight m c s r = 0 := by
  unfold rowWeight idAt weight
  rw [dif_neg (by omega), if_neg]
  intro e
  have := congrArg BitVec.toNat e
  simp only [BitVec.toNat_ofNat] at this
  have := s.isLt
  omega

/-- The counts over all blocks are the counts over the nodes. -/
theorem counts_total (s : Fin 256) :
    ∑ t ∈ Finset.range 25, ∑ l : Fin 2048, rowWeight m c s (2048 * t + l.val) = countAt m c s := by
  rw [sum_blocks 2048 (rowWeight m c s) 25]
  refine (sum_range_drop 50000 1200 _ (rowWeight_padding m c s)).trans (Finset.sum_congr rfl fun n _ => ?_)
  unfold rowWeight idAt
  rw [dif_pos n.isLt]

/-- The row sums over all blocks are the sums over the nodes. -/
theorem sums_total (s : Fin 256) (k : Fin 128) :
    ∑ t ∈ Finset.range 25, ∑ l : Fin 2048, rowShare m c s k (2048 * t + l.val) = pooledAt m c s k := by
  rw [sum_blocks 2048 (rowShare m c s k) 25]
  refine (sum_range_drop 50000 1200 _ fun r hr => ?_).trans (Finset.sum_congr rfl fun n _ => ?_)
  · unfold rowShare
    rw [rowWeight_padding m c s r hr, zero_mul]
  · unfold rowShare rowWeight idAt featAt
    rw [dif_pos n.isLt, dif_pos n.isLt]

/-- The output of the last block, over the sums and counts the block before it left. -/
theorem out_of_last (n : ℕ) (h : n + 1 < cfg0.N) (hn : n + 1 = 24) (s : Fin 256) (j : Fin 128) :
    (outsAt0 m c (n + 1) h).1 (ix2 s j)
      = (∑ h : Fin 256, ((∑ k : Fin 128, pooledAt m c s k * m ((c : Thread nD τ).loc main_arg3) (ix2 k h : S128x256.Idx))
          + countAt m c s * m ((c : Thread nD τ).loc main_arg4) (ix1 h : S256.Idx))
          * m ((c : Thread nD τ).loc main_arg5) (ix2 h j : S256x128.Idx))
        + m ((c : Thread nD τ).loc main_arg6) (ix1 j : S128.Idx) := by
  have h0 : ¬(⟨n + 1, h⟩ : Fin cfg0.N).val % 25 = 0 := by dsimp only; omega
  have h1 : (⟨n + 1, h⟩ : Fin cfg0.N).val % 25 = 24 := by dsimp only; omega
  have hc := fun k => carried m c s k n (Nat.lt_of_succ_lt h) (by omega)
  rw [Value.outsAt0_succ]
  generalize outsAt0 m c n (Nat.lt_of_succ_lt h) = prev at hc ⊢
  have sums : ∀ k, k0_pay4 (F := Ideal) (iblk m c 1 ⟨n + 1, h⟩) prev.2.1 (iblk m c 0 ⟨n + 1, h⟩) (ix2 s k)
      = pooledAt m c s k := fun k => by
    rw [sums_step, (hc k).1, ← Finset.sum_range_succ _ (n + 1), hn, sums_total]
  have counts : k0_pay5 (F := Ideal) (iblk m c 1 ⟨n + 1, h⟩) prev.2.2 (ix2 s 0) = countAt m c s := by
    rw [counts_step, (hc 0).2, ← Finset.sum_range_succ _ (n + 1), hn, counts_total]
  rw [Value.stAt0_C m c ⟨n + 1, h⟩ prev h0 h1]
  dsimp only
  rw [out_last, out_apply, out_bias_block, counts]
  refine congrArg (· + _) (Finset.sum_congr rfl fun i _ => ?_)
  rw [bias_block, out_weights_block]
  refine congrArg (fun y => (y + _) * _) (Finset.sum_congr rfl fun k _ => ?_)
  rw [weights_block, sums]

/-- The kernel's result at `(s, j)`: the pooled rows and counts through both affine maps. -/
theorem result_apply (s : Fin 256) (j : Fin 128) :
    Value.G6 m c (ix2 s j : S256x128.Idx)
      = (∑ h : Fin 256, ((∑ k : Fin 128, pooledAt m c s k * m ((c : Thread nD τ).loc main_arg3) (ix2 k h : S128x256.Idx))
          + countAt m c s * m ((c : Thread nD τ).loc main_arg4) (ix1 h : S256.Idx))
          * m ((c : Thread nD τ).loc main_arg5) (ix2 h j : S256x128.Idx))
        + m ((c : Thread nD τ).loc main_arg6) (ix1 j : S128.Idx) := by
  have hN : 23 + 1 < cfg0.N := lt_of_lt_of_eq (by decide) N_0.symm
  rw [Value.G6_last, ← Value.outsAt0_sweep m c (23 + 1) hN]
  exact out_of_last m c 23 hN rfl s j

end Cert.KernelIdeal.Pool

end
-- ==== Proof.Reference.lean ====
/-
  The reference's result read at one entry over the extended reals: each node's hidden row, pooled over the nodes of a
  segment by the scatter, then the output map.
-/
module

public import proofs.«01_k».proof.Proof.Gen.ReferenceIdeal
public import proofs.«01_k».proof.Proof.Math
public import Idealize.ShloMosaic.Lib.StackMember
public import Idealize.ShloMosaic.Lib.Routing.OpsPair
public import Idealize.ShloMosaic.Lib.ValueIdx
public import Idealize.ShloMosaic.Lib.Pipeline.Value
public import Idealize.ShloMosaic.PureOps.Ideal.Laws

@[expose] public section

noncomputable section

namespace Cert.ReferenceIdeal.Pool

open Cert.ReferenceIdeal Cert.ReferenceIdeal.Gen Cert.SegmentPool Idealize.ShloMosaic Idealize.ShloMosaic.ValueIdx

/-- A segment id read as a signed number is `s` exactly when it is the word of `s`. -/
theorem signed_eq_iff (w : BitVec 32) (s : Fin 256) : w.toInt = (s.val : Int) ↔ w = BitVec.ofNat 32 s.val := by
  have hs := s.isLt
  have e : (BitVec.ofNat 32 s.val).toInt = (s.val : Int) := by
    rw [BitVec.toInt_ofNat']; simp only [Int.bmod_def]; omega
  rw [← e, BitVec.toInt_inj]

/-- Node `n`'s update of column `c` lands on `(s, h)` exactly when the node is in segment `s` and `c` is `h`. -/
theorem lands_iff (ids : IVec S50000x1 32) (n : Fin 50000) (c : Fin 256) (s h : Fin 256) :
    scatter_S256x256_S50000x1_S50000x256_1_0_0_1.resultIdx? (ix2 n c) ids = some (ix2 s h)
      ↔ ids (ix2 n 0) = BitVec.ofNat 32 s.val ∧ c = h := by
  have e0 : scatter_S256x256_S50000x1_S50000x256_1_0_0_1.start (ix2 n c) ids 0 = (ids (ix2 n 0)).toInt := by
    refine congrArg (fun i => (ids i).toInt) ?_
    funext a
    fin_cases a <;> rfl
  have e1 : scatter_S256x256_S50000x1_S50000x256_1_0_0_1.start (ix2 n c) ids 1 = 0 := rfl
  have w0 : scatter_S256x256_S50000x1_S50000x256_1_0_0_1.window (ix2 n c) 0 = 0 := rfl
  have w1 : scatter_S256x256_S50000x1_S50000x256_1_0_0_1.window (ix2 n c) 1 = c.val := rfl
  refine (Idealize.ShloMosaic.Routing.resultIdx?_ix2 (R := 256) (C := 256) scatter_S256x256_S50000x1_S50000x256_1_0_0_1 (ix2 n c) ids s h).trans ?_
  rw [e0, e1, w0, w1, ← signed_eq_iff, Fin.ext_iff]
  omega

/-- The scatter of rows into segments: entry `(s, h)` is the sum of column `h` over the nodes of segment `s`. -/
theorem scatter_apply (zero : FVec Ideal S256x256 .f32) (ids : IVec S50000x1 32) (upd : FVec Ideal S50000x256 .f32)
    (s h : Fin 256) :
    Host.scatterAdd scatter_S256x256_S50000x1_S50000x256_1_0_0_1 zero ids upd (ix2 s h)
      = zero (ix2 s h)
        + ∑ n ∈ Finset.univ.filter (fun n : Fin 50000 => ids (ix2 n 0) = BitVec.ofNat 32 s.val), upd (ix2 n h) := by
  show zero (ix2 s h) + _ = _
  refine congrArg (zero (ix2 s h) + ·) ?_
  rw [Finset.sum_filter, sum_idx2, Finset.sum_filter]
  refine Finset.sum_congr rfl fun n _ => ?_
  refine (Finset.sum_congr rfl fun c _ => if_congr (lands_iff ids n c s h) rfl rfl).trans ?_
  by_cases p : ids (ix2 n 0) = BitVec.ofNat 32 s.val
  · simp [p]
  · simp [p]

/-- The reference's composed term over its arguments. -/
abbrev term (x : FVec Ideal S50000x128 .f32) (ids : IVec S50000 32) (w : FVec Ideal S128x256 .f32) (b : FVec Ideal S256 .f32)
    (p : FVec Ideal S256x128 .f32) (q : FVec Ideal S128 .f32) : FVec Ideal S256x128 .f32 :=
  addf (Host.dotGeneral dot_S256x256_S256x128_S256x128_1_0_0_1_n_n none
    (Host.scatterAdd scatter_S256x256_S50000x1_S50000x256_1_0_0_1
      (broadcastInDim S256x256 ![] bcast_S_S256x256 (constant S_ .f32 0x00000000#32))
      (broadcastInDim S50000x1 ![0] bcast_S50000_S50000x1_0 ids)
      (addf (Host.dotGeneral dot_S50000x128_S128x256_S50000x256_1_0_0_1_n_n none x w)
        (broadcastInDim S50000x256 ![0, 1] bcast_S1x256_S50000x256_0_1 (broadcastInDim S1x256 ![1] bcast_S256_S1x256_1 b)))) p)
    (broadcastInDim S256x128 ![0, 1] bcast_S1x128_S256x128_0_1 (broadcastInDim S1x128 ![1] bcast_S128_S1x128_1 q))

/-- The reference's result at `(s, j)`. -/
theorem term_apply (x : FVec Ideal S50000x128 .f32) (ids : IVec S50000 32) (w : FVec Ideal S128x256 .f32)
    (b : FVec Ideal S256 .f32) (p : FVec Ideal S256x128 .f32) (q : FVec Ideal S128 .f32) (s : Fin 256) (j : Fin 128) :
    term x ids w b p q (ix2 s j)
      = (∑ h : Fin 256, (∑ n ∈ Finset.univ.filter (fun n : Fin 50000 => ids (ix1 n) = BitVec.ofNat 32 s.val),
          (∑ k : Fin 128, x (ix2 n k) * w (ix2 k h) + b (ix1 h))) * p (ix2 h j)) + q (ix1 j) := by
  unfold term
  rw [addf_apply]
  refine congr (congrArg _ ?_) ?_
  · refine (StackMember.dotGeneral_plain_apply none _ p s j).trans (Finset.sum_congr rfl fun h _ => congrArg (· * p (ix2 h j)) ?_)
    rw [scatter_apply]
    have hz : broadcastInDim S256x256 ![] bcast_S_S256x256 (constant (F := Ideal) S_ .f32 0x00000000#32) (ix2 s h) = 0 :=
      Ideal.ofBits_zero_f32
    have hi : ∀ n : Fin 50000, broadcastInDim S50000x1 ![0] bcast_S50000_S50000x1_0 ids (ix2 n 0) = ids (ix1 n) := fun n =>
      broadcastInDim_apply _ _ _ _ (ix1 n : S50000.Idx) fun a => by fin_cases a; rfl
    rw [hz, zero_add]
    simp only [hi]
    refine Finset.sum_congr rfl fun n _ => ?_
    rw [addf_apply]
    refine congr (congrArg _ (StackMember.dotGeneral_plain_apply none x w n h)) ?_
    rw [broadcastInDim_apply _ _ _ _ (ix2 0 h : S1x256.Idx) fun a => by fin_cases a <;> rfl]
    exact broadcastInDim_apply _ _ _ _ (ix1 h : S256.Idx) fun a => by fin_cases a; rfl
  · rw [broadcastInDim_apply _ _ _ _ (ix2 0 j : S1x128.Idx) fun a => by fin_cases a <;> rfl]
    exact broadcastInDim_apply _ _ _ _ (ix1 j : S128.Idx) fun a => by fin_cases a; rfl

end Cert.ReferenceIdeal.Pool

end
-- ==== Proof.Finite.lean ====
/-
  What the precondition says: every feature and every hidden weight is a real number.
-/
module

public import proofs.«01_k».proof.Proof.Gen.Pre_features_finite
public import Idealize.ShloMosaic.Lib.ReduceAll
public import Idealize.ShloMosaic.Lib.ValueIdx
public import Idealize.ShloMosaic.PureOps.Ideal.Laws

@[expose] public section

noncomputable section

namespace Cert.Pre_features_finite.Pool

open Cert.Pre_features_finite Idealize.ShloMosaic Idealize.ShloMosaic.ValueIdx

/-- The bit pattern the comparison is made against is the largest extended real. -/
theorem bound_eq_top : Ideal.ofBits .f32 0x7F800000#32 = (⊤ : EReal) := by
  simp [Ideal.ofBits, Ideal.ieee]

/-- A value whose magnitude compares below the bound is neither infinity. -/
theorem finite_of_below (a : EReal) (h : FloatOps.cmpf (F := Ideal) (φ := .f32) .olt (FloatOps.hostAbsf (F := Ideal) (φ := .f32) a)
    (Ideal.ofBits .f32 0x7F800000#32) = 1#1) : a ≠ ⊤ ∧ a ≠ ⊥ := by
  rw [bound_eq_top] at h
  change BitVec.ofBool (decide (max a (-a) < (⊤ : EReal))) = 1#1 at h
  have hlt : max a (-a) < ⊤ := by
    by_contra hc
    rw [decide_eq_false hc] at h
    exact absurd h (by decide)
  constructor
  · rintro rfl
    exact absurd hlt (by simp)
  · rintro rfl
    exact absurd hlt (by simp)

/-- The shape of one element has one index. -/
instance one_index : Subsingleton S_.Idx := ⟨fun a b => funext fun i => i.elim0⟩

/-- Where the precondition holds, every feature and every hidden weight is finite. -/
theorem finite_of_pre (x : FVec Ideal S50000x128 .f32) (u : FVec Ideal S1 .f32) (ids : IVec S50000 32)
    (w : FVec Ideal S128x256 .f32) (b : FVec Ideal S256 .f32) (p : FVec Ideal S256x128 .f32) (q : FVec Ideal S128 .f32)
    (h : fn (F := Ideal) x u ids w b p q = fun _ => 1#1) :
    (∀ i, x i ≠ ⊤ ∧ x i ≠ ⊥) ∧ (∀ i, w i ≠ ⊤ ∧ w i ≠ ⊥) := by
  have e := congrFun h ix0
  unfold fn at e
  have e' := IntOp.andi_eq_one.1 e
  exact ⟨fun i => finite_of_below _ (Host.reduce_andi_all _ _ _ _ _ e'.1 i),
    fun i => finite_of_below _ (Host.reduce_andi_all _ _ _ _ _ e'.2 i)⟩

end Cert.Pre_features_finite.Pool

end
-- ==== Proof.Equal.lean ====
/-
  The kernel and the reference compute the same extended reals: pooling first and mapping after, with the bias taken once
  per node, is mapping first and pooling after, wherever the features and hidden weights are finite.
-/
module

public import proofs.«01_k».proof.Proof.Accumulate
public import proofs.«01_k».proof.Proof.Reference
public import proofs.«01_k».proof.Proof.Finite

@[expose] public section

noncomputable section

namespace Cert.SegmentPool

open Cert.KernelIdeal Idealize.ShloMosaic Idealize.ShloMosaic.TcCoe Idealize.ShloMosaic.ValueIdx

/-- Under the precondition the kernel's result is the reference's term over the same arguments. -/
theorem kernel_eq_reference (m : (ℓ : Loc nD τ sig) → Buf (Elt Ideal) ℓ) (c : Dev nD)
    (hpre : Cert.Pre_features_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = fun _ => 1#1) :
    Cert.ReferenceIdeal.Pool.term (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6))
      = Cert.KernelIdeal.Value.G6 m c := by
  obtain ⟨hx, hw⟩ := Cert.Pre_features_finite.Pool.finite_of_pre _ _ _ _ _ _ _ hpre
  funext i
  obtain ⟨s, j, rfl⟩ : ∃ (s : Fin 256) (j : Fin 128), i = ix2 s j := ⟨i 0, i 1, eq_ix2 i⟩
  refine (Cert.ReferenceIdeal.Pool.term_apply _ _ _ _ _ _ s j).trans (Eq.trans ?_ (Cert.KernelIdeal.Pool.result_apply m c s j).symm)
  have pooled : ∀ h : Fin 256, _ = _ := fun h =>
    pool_affine (fun n : Fin 50000 => m ((c : Thread nD τ).loc main_arg2) (ix1 n : S50000.Idx) = BitVec.ofNat 32 s.val)
      (fun n k => m ((c : Thread nD τ).loc main_arg0) (ix2 n k : S50000x128.Idx))
      (fun k => m ((c : Thread nD τ).loc main_arg3) (ix2 k h : S128x256.Idx))
      (m ((c : Thread nD τ).loc main_arg4) (ix1 h : S256.Idx)) (fun n k => hx _) (fun k => hw _)
  refine congrArg₂ (fun y z : EReal => y + z) (Finset.sum_congr rfl fun h _ => ?_) rfl
  exact congrArg₂ (fun y z : EReal => y * z) (pooled h) rfl

end Cert.SegmentPool

end
-- ==== Proof.lean ====
/- The certificate's claims put together. The frames come from the generated runs of the three programs. The value claim
   runs the kernel and the reference side by side and closes with the equation of their results (Proof/Equal.lean). -/
module

public import proofs.«01_k».proof.Defs
public import proofs.«01_k».proof.Proof.Gen.Kernel.Frame
public import proofs.«01_k».proof.Proof.Gen.KernelIdeal.Value
public import proofs.«01_k».proof.Proof.Gen.Pre_features_finite
public import proofs.«01_k».proof.Proof.Gen.ReferenceIdeal.Run
public import Idealize.ShloMosaic.Adequacy
public import Idealize.ShloMosaic.Init
public import Idealize.ShloMosaic.Lib.Quiescent
public import proofs.«01_k».proof.Proof.Equal

@[expose] public section

noncomputable section

namespace Cert.Proof

open Idealize.ShloMosaic Idealize.SL.Sem

/-- Every run of the reference ends with its arguments unchanged and nothing in flight. -/
theorem frame_reference : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories agreeing on the arguments, the kernel and the reference end with the same result. -/
theorem kernel_agrees : algebraic_KernelIdeal_ReferenceIdeal_pre_features_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, -, a2, a3, a4, a5, a6⟩ := hagree c
  rw [(h c).1, a0, a2, a3, a4, a5, a6]
  exact Cert.SegmentPool.kernel_eq_reference m c (hpre c)

/-- Every claim of the certificate. -/
theorem claim : Cert.Claim := ⟨Cert.Kernel.Gen.facts, Cert.KernelIdeal.Gen.facts, Cert.ReferenceIdeal.Gen.facts, Cert.Pre_features_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, (trivial : preserves_Kernel_KernelIdeal), kernel_agrees⟩

end Cert.Proof

end
